-- ==== Defs.lean ====
def Pre_Kernel [hPre_pi_swaps_Kernel : Cert.Pre_pi_swaps_Kernel.Facts] (m : (ℓ : Loc Cert.Kernel.nD Cert.Kernel.τ Cert.Kernel.sig) → Buf (Elt Bits) ℓ) : Prop :=
  ∀ c : Dev Cert.Kernel.nD,
    (Cert.Pre_pi_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_stays_Kernel [hPre_pi_stays_Kernel : Cert.Pre_pi_stays_Kernel.Facts] (m : (ℓ : Loc Cert.Kernel.nD Cert.Kernel.τ Cert.Kernel.sig) → Buf (Elt Bits) ℓ) : Prop :=
  ∀ c : Dev Cert.Kernel.nD,
    (Cert.Pre_pi_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_swaps_Kernel : Cert.Pre_pi_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_stays_Kernel [hPre_pi_stays_Kernel : Cert.Pre_pi_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_swaps_ReferenceIdeal [hPre_pi_swaps_ReferenceIdeal : Cert.Pre_pi_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_stays_ReferenceIdeal [hPre_pi_stays_ReferenceIdeal : Cert.Pre_pi_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_swaps_Kernel : Cert.Pre_pi_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_stays_Kernel [hKernel : Cert.Kernel.Facts] [hPre_pi_stays_Kernel : Cert.Pre_pi_stays_Kernel.Facts] : Prop :=
  ∀ (m : (ℓ : Loc Cert.Kernel.nD Cert.Kernel.τ Cert.Kernel.sig) → Buf (Elt Bits) ℓ) (g : Dev Cert.Kernel.nD → PrngReg), Pre_Kernel_pi_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_stays_Kernel [hKernelIdeal : Cert.KernelIdeal.Facts] [hPre_pi_stays_Kernel : Cert.Pre_pi_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_swaps_ReferenceIdeal [hReferenceIdeal : Cert.ReferenceIdeal.Facts] [hPre_pi_swaps_ReferenceIdeal : Cert.Pre_pi_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_stays_ReferenceIdeal [hReferenceIdeal : Cert.ReferenceIdeal.Facts] [hPre_pi_stays_ReferenceIdeal : Cert.Pre_pi_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_stays_Kernel [hKernelIdeal : Cert.KernelIdeal.Facts] [hReferenceIdeal : Cert.ReferenceIdeal.Facts] [hPre_pi_stays_Kernel : Cert.Pre_pi_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_stays_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_swaps_Kernel : Cert.Pre_pi_swaps_Kernel.Facts) (hPre_pi_stays_Kernel : Cert.Pre_pi_stays_Kernel.Facts) (hPre_pi_swaps_ReferenceIdeal : Cert.Pre_pi_swaps_ReferenceIdeal.Facts) (hPre_pi_stays_ReferenceIdeal : Cert.Pre_pi_stays_ReferenceIdeal.Facts),
    quiescent_Kernel (hKernel := hKernel) (hPre_pi_swaps_Kernel := hPre_pi_swaps_Kernel)
    ∧ quiescent_Kernel_pre_pi_stays_Kernel (hKernel := hKernel) (hPre_pi_stays_Kernel := hPre_pi_stays_Kernel)
    ∧ quiescent_KernelIdeal (hKernelIdeal := hKernelIdeal) (hPre_pi_swaps_Kernel := hPre_pi_swaps_Kernel)
    ∧ quiescent_KernelIdeal_pre_pi_stays_Kernel (hKernelIdeal := hKernelIdeal) (hPre_pi_stays_Kernel := hPre_pi_stays_Kernel)
    ∧ quiescent_ReferenceIdeal (hReferenceIdeal := hReferenceIdeal)
    ∧ quiescent_ReferenceIdeal_pre_pi_swaps_ReferenceIdeal (hReferenceIdeal := hReferenceIdeal) (hPre_pi_swaps_ReferenceIdeal := hPre_pi_swaps_ReferenceIdeal)
    ∧ quiescent_ReferenceIdeal_pre_pi_stays_ReferenceIdeal (hReferenceIdeal := hReferenceIdeal) (hPre_pi_stays_ReferenceIdeal := hPre_pi_stays_ReferenceIdeal)
    ∧ preserves_Kernel_KernelIdeal
    ∧ algebraic_KernelIdeal_ReferenceIdeal (hKernelIdeal := hKernelIdeal) (hReferenceIdeal := hReferenceIdeal) (hPre_pi_swaps_Kernel := hPre_pi_swaps_Kernel)
    ∧ algebraic_KernelIdeal_ReferenceIdeal_pre_pi_stays_Kernel (hKernelIdeal := hKernelIdeal) (hReferenceIdeal := hReferenceIdeal) (hPre_pi_stays_Kernel := hPre_pi_stays_Kernel)
-- ==== Pre_pi_stays_Kernel.lean ====
abbrev S1x256x256 : Shape := ⟨3, ![1, 256, 256]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S1x256x256 .bf16) (main_arg1 : IVec S2 32) : IVec S2 1 :=
  let main_c : IVec S2 32 := fun i => lit0 (S2.rowMajor i)
  let main_v0 : IVec S2 1 := cmpi .eq main_arg1 main_c
  main_v0
-- ==== Pre_pi_stays_ReferenceIdeal.lean ====
abbrev S2x256x256 : Shape := ⟨3, ![2, 256, 256]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S2x256x256 .bf16) (main_arg1 : IVec S2 32) : IVec S2 1 :=
  let main_c : IVec S2 32 := fun i => lit0 (S2.rowMajor i)
  let main_v0 : IVec S2 1 := cmpi .eq main_arg1 main_c
  main_v0
-- ==== Pre_pi_swaps_Kernel.lean ====
abbrev S1x256x256 : Shape := ⟨3, ![1, 256, 256]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S1x256x256 .bf16) (main_arg1 : IVec S2 32) : IVec S2 1 :=
  let main_c : IVec S2 32 := fun i => lit0 (S2.rowMajor i)
  let main_v0 : IVec S2 1 := cmpi .eq main_arg1 main_c
  main_v0
-- ==== Pre_pi_swaps_ReferenceIdeal.lean ====
abbrev S2x256x256 : Shape := ⟨3, ![2, 256, 256]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S2x256x256 .bf16) (main_arg1 : IVec S2 32) : IVec S2 1 :=
  let main_c : IVec S2 32 := fun i => lit0 (S2.rowMajor i)
  let main_v0 : IVec S2 1 := cmpi .eq main_arg1 main_c
  main_v0
-- ==== Kernel.lean ====
abbrev S1x256x256 : Shape := ⟨3, ![1, 256, 256]⟩
abbrev S2 : Shape := ⟨1, ![2]⟩
abbrev S_ : Shape := ⟨0, ![]⟩
abbrev S1 : Shape := ⟨1, ![1]⟩

abbrev nBuf : Space → Nat
  | .hbm => 3
  | .vmem => 3
  | .smem => 1
  | _ => 0

abbrev bufTy : (tb : Table) → Fin (tcTables nBuf tb) → BufTy
  | .hbm, ⟨0, _⟩ => ⟨S1x256x256, .bf16⟩
  | .hbm, ⟨1, _⟩ => ⟨S2, .i32⟩
  | .hbm, ⟨2, _⟩ => ⟨S1x256x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .smem, ⟨0, _⟩ => ⟨S2, .i32⟩
  | _, _ => ⟨S1x256x256, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : Index := Scalar.indexCast v8
  ![v9.toNat]
def k0_dev1 (d0 : Dev nD) (v11 : BitVec 32) : Nat :=
  let c0_i32_8 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v21 : BitVec 32 := Scalar.muli v2 c4_i32_7
  let v22 : BitVec 32 := Scalar.addi c0_i32_8 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_9 : BitVec 32 := 2#32
  let v23 : BitVec 32 := Scalar.muli v5 c2_i32_9
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 1 := Scalar.cmpi .eq v11 v8
  let c0_i32 : BitVec 32 := 0#32
  let c1_i32_3 : BitVec 32 := 1#32
  let v13 : BitVec 32 := Scalar.select v12 c0_i32 c1_i32_3
  let c1_i32_10 : BitVec 32 := 1#32
  let v25 : BitVec 32 := Scalar.muli v13 c1_i32_10
  let v26 : BitVec 32 := Scalar.addi v24 v25
  v26.toNat
def k0_cond1 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 1 := Scalar.cmpi .ne v10 v8
  let v15 : BitVec 32 := Scalar.extui v14
  let c0_i32_4 : BitVec 32 := 0#32
  let v16 : BitVec 1 := Scalar.cmpi .ne v15 c0_i32_4
  v16

def k0_chk1 (d0 : Dev nD) (v10 : BitVec 32) (v11 : BitVec 32) : Prop :=
  (∀ (k0_h1 : k0_cond1 d0 v10 = 1#1), (k0_dev1 d0 v11) < nD)
theorem k0_dev1_lt : ∀ (d0 : Dev nD) (v10 : BitVec 32) (v11 : BitVec 32) (k0_hw1 : k0_chk1 d0 v10 v11), ∀ (k0_h1 : k0_cond1 d0 v10 = 1#1), (k0_dev1 d0 v11) < nD := fun d0 v10 v11 k0_hw1 k0_h1 => k0_hw1 k0_h1

def k0_dev2 (d0 : Dev nD) (v10 : BitVec 32) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v32 : BitVec 32 := Scalar.muli v2 c4_i32_18
  let v33 : BitVec 32 := Scalar.addi c0_i32_19 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v34 : BitVec 32 := Scalar.muli v5 c2_i32_20
  let v35 : BitVec 32 := Scalar.addi v33 v34
  let c1_i32_21 : BitVec 32 := 1#32
  let v36 : BitVec 32 := Scalar.muli v10 c1_i32_21
  let v37 : BitVec 32 := Scalar.addi v35 v36
  v37.toNat

def k0_chk2 (d0 : Dev nD) (v10 : BitVec 32) : Prop :=
  (∀ (k0_h1 : k0_cond1 d0 v10 = 1#1), (k0_dev2 d0 v10) < nD)
theorem k0_dev2_lt : ∀ (d0 : Dev nD) (v10 : BitVec 32) (k0_hw2 : k0_chk2 d0 v10), ∀ (k0_h1 : k0_cond1 d0 v10 = 1#1), (k0_dev2 d0 v10) < nD := fun d0 v10 k0_hw2 k0_h1 => k0_hw2 k0_h1

abbrev stage0_0 : Fin 1 → Memref sig .tc .vmem S1x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x256x256 : Shape := ⟨3, ![2, 256, 256]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x256x256, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x256x256, .bf16⟩
  | .hbm, ⟨14, _⟩ => ⟨S2x256x256, .f32⟩
  | .hbm, ⟨15, _⟩ => ⟨S2x256x256, .bf16⟩
  | _, _ => ⟨S2x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Common.lean ====
/-
  What the two runs of the kernel (`Swap.lean`: the permutation exchanges the two positions of the axis z; `Stay.lean`: it
  is the identity) have in common: the peer of a device along z, the two words of the permutation that the body reads and
  what they decide, the blocks that the pipeline stages, and what a whole load or store of a staging buffer does. Everything
  is stated of the idealized program at any float values `F`; the two programs' texts are the same, so the program as
  printed is the instance at the bit patterns.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Scf
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources: the pipeline's rounds and the exchange's. -/
abbrev UU : Type := UR sig nD τ × UR sig nD τ

local notation "𝕄" => MT nD τ sig Unit (Elt F) ℕ UU ℕ

/-- The pipelines' ghost state within the whole, -/
abbrev EP : Emb (UR sig nD τ) (MT nD τ sig Unit (Elt F) ℕ UU ℕ) := embL
/-- and the exchange's. -/
abbrev ER : Emb (UR sig nD τ) (MT nD τ sig Unit (Elt F) ℕ UU ℕ) := embR

/-- No loop has a variant. -/
abbrev 𝒱₀ : Variants := Variants.none

variable (m : (ℓ : Loc nD τ sig) → Buf (Elt F) ℓ)

/-! ## The peer along z -/

set_option backward.proofsInPublic true in
/-- The device at the other position of the axis z. -/
def peer (c : Dev nD) : Dev nD :=
  ⟨c.val + 1 - 2 * (c.val % 2), by have : c.val < 8 := c.isLt; show _ < 8; omega⟩

/-- The peer's peer is the device itself. -/
theorem peer_peer (c : Dev nD) : peer (peer c) = c := by revert c; decide

/-- The exchange of the peers, as a permutation of the devices. -/
def peers : Dev nD ≃ Dev nD := ⟨peer, peer, peer_peer, peer_peer⟩

/-! ## The permutation's words -/

/-- The permutation exchanges the two positions, on every device's copy. -/
def Swaps : Prop := ∀ (c : Dev nD) (i : S2.Idx), m ((c : Thread nD τ).loc main_arg1) i = BitVec.ofNat 32 (1 - (i 0).val)

/-- The permutation is the identity, on every device's copy. -/
def Stays : Prop := ∀ (c : Dev nD) (i : S2.Idx), m ((c : Thread nD τ).loc main_arg1) i = BitVec.ofNat 32 (i 0).val

/-- The permutation as device `c` stages it into scalar memory. -/
def piBlk (c : Dev nD) : (cc0_stg1_0 : Ref sig .tc).ty.Contents (Elt F) :=
  (win0_1.blk (0 : Fin 1)).view.read (Elt F) (m ((c : Thread nD τ).loc main_arg1))

/-- The one word that the rectangle `ownR c` covers: the position of the axis z that device `c`'s block goes to. -/
abbrev ownR (c : Dev nD) : Rect S2 := Rect.unit (s := S2) (k0_off1 c) S1.size (k0_off1_inb c)
/-- The permutation's word 0. -/
abbrev fstR : Rect S2 := Rect.unit (s := S2) ![0] S1.size inb_S2_S1_0

/-- The word that a scalar load of rectangle `ownR c` gives. -/
abbrev ownWord (c : Dev nD) (f : (cc0_stg1_0 : Ref sig .tc).ty.Contents (Elt F)) : BitVec 32 :=
  ((Memref.whole cc0_stg1_0).access (ownR c) : View sig .tc _ _ _).read (Elt F) f (Shape.Idx.first (s := S1) (numel1_S1.symm ▸ Nat.one_pos))
/-- The word that a scalar load of rectangle `fstR` gives. -/
abbrev fstWord (f : (cc0_stg1_0 : Ref sig .tc).ty.Contents (Elt F)) : BitVec 32 :=
  ((Memref.whole cc0_stg1_0).access fstR : View sig .tc _ _ _).read (Elt F) f (Shape.Idx.first (s := S1) (numel1_S1.symm ▸ Nat.one_pos))

/-- The index of a word of the permutation. -/
def at2 (k : Fin 2) : S2.Idx := fun a => ⟨k.val, by fin_cases a; exact k.isLt⟩

omit [FloatOps F] in
/-- Device `c` reads the word at its own position of the axis z, -/
theorem ownWord_piBlk (c : Dev nD) :
    ownWord c (piBlk m c) = m ((c : Thread nD τ).loc main_arg1) (at2 ⟨c.val % 2, Nat.mod_lt _ (by decide)⟩) := by
  show m ((c : Thread nD τ).loc main_arg1) _ = _
  refine congrArg _ (funext fun a => Fin.ext ?_)
  fin_cases a; fin_cases c <;> rfl

omit [FloatOps F] in
/-- and word 0. -/
theorem fstWord_piBlk (c : Dev nD) : fstWord (piBlk m c) = m ((c : Thread nD τ).loc main_arg1) (at2 0) := by
  show m ((c : Thread nD τ).loc main_arg1) _ = _
  refine congrArg _ (funext fun a => Fin.ext ?_)
  fin_cases a; rfl

variable {m}

omit [FloatOps F] in
/-- On the exchange a device reads the other position at its own, -/
theorem Swaps.own (h : Swaps m) (c : Dev nD) : ownWord c (piBlk m c) = BitVec.ofNat 32 (1 - c.val % 2) := by
  rw [ownWord_piBlk, h]; rfl
omit [FloatOps F] in
/-- and one at the first. -/
theorem Swaps.fst (h : Swaps m) (c : Dev nD) : fstWord (piBlk m c) = 1#32 := by rw [fstWord_piBlk, h]; rfl
omit [FloatOps F] in
/-- On the identity it reads its own position at its own, -/
theorem Stays.own (h : Stays m) (c : Dev nD) : ownWord c (piBlk m c) = BitVec.ofNat 32 (c.val % 2) := by
  rw [ownWord_piBlk, h]; rfl
omit [FloatOps F] in
/-- and zero at the first. -/
theorem Stays.fst (h : Stays m) (c : Dev nD) : fstWord (piBlk m c) = 0#32 := by rw [fstWord_piBlk, h]; rfl

variable (m)

/-! ## The blocks of `x` -/

/-- Device `c`'s block of `x`, as staged. -/
def xBlk (c : Dev nD) : (cc0_stg0_0 : Ref sig .tc).ty.Contents (Elt F) :=
  (win0_0.blk (0 : Fin 1)).view.read (Elt F) (m ((c : Thread nD τ).loc main_arg0))

omit [FloatOps F] in
/-- It is the whole array that the device holds. -/
theorem xBlk_eq (c : Dev nD) : xBlk m c = m ((c : Thread nD τ).loc main_arg0) :=
  Memref.read_access_unit_zero (Elt F) main_arg0
    (funext fun a => by fin_cases a <;> decide : (fun a => (win0_0.index (0 : Fin 1)) a * main_arg0.ty.shape.size a) = fun _ => 0)
    (fun a => by fin_cases a <;> decide) _

omit [FloatOps F] in
/-- Reading the result's one block back is reading the result. -/
theorem read_out (f : (main_v1 : Ref sig .tc).ty.Contents (Elt F)) : (win0_2.blk (0 : Fin 1)).view.read (Elt F) f = f :=
  Memref.read_access_unit_zero (Elt F) main_v1
    (funext fun a => by fin_cases a <;> decide : (fun a => (win0_2.index (0 : Fin 1)) a * main_v1.ty.shape.size a) = fun _ => 0)
    (fun a => by fin_cases a <;> decide) _

/-! ## Whole buffers -/

/-- The staging buffer of `x`, -/
abbrev xM : Memref sig .tc .vmem S1x256x256 .bf16 := Memref.whole cc0_stg0_0
/-- of `pi`, -/
abbrev piM : Memref sig .tc .smem S2 .i32 := Memref.whole cc0_stg1_0
/-- of the result, -/
abbrev oM : Memref sig .tc .vmem S1x256x256 .bf16 := Memref.whole cc0_stg2_0
/-- and the send buffer. -/
abbrev bM : Memref sig .tc .vmem S1x256x256 .bf16 := Memref.whole cc0_scratch0

/-- The rectangle of every vector load and store: all of the buffer. -/
abbrev allR : Rect S1x256x256 := Rect.unit (s := S1x256x256) ![0, 0, 0] S1x256x256.size inb_S1x256x256_S1x256x256_0_0_0

omit [FloatOps F] in
/-- Three zeros are the zero offset. -/
theorem zeros3 : (![0, 0, 0] : Fin 3 → Nat) = fun _ => 0 := funext fun a => by fin_cases a <;> rfl

omit [FloatOps F] in
/-- A load of the staged block of `x` reads its contents. -/
theorem load_x (f : (cc0_stg0_0 : Ref sig .tc).ty.Contents (Elt F)) : xM.view.readAt (Elt F) allR.toLoadRect f = f :=
  Memref.readAt_unit_zero (Elt F) cc0_stg0_0 zeros3 _ f
omit [FloatOps F] in
/-- A store into the send buffer leaves exactly what was stored, -/
theorem store_b (f w : (cc0_scratch0 : Ref sig .tc).ty.Contents (Elt F)) :
    (bM.access allR : View sig .tc _ _ _).write (Elt F) f w Finset.univ = w :=
  Memref.write_access_unit_zero_univ (Elt F) cc0_scratch0 zeros3 _ f w
omit [FloatOps F] in
/-- and so does one into the result's staging buffer. -/
theorem store_o (f w : (cc0_stg2_0 : Ref sig .tc).ty.Contents (Elt F)) :
    (oM.access allR : View sig .tc _ _ _).write (Elt F) f w Finset.univ = w :=
  Memref.write_access_unit_zero_univ (Elt F) cc0_stg2_0 zeros3 _ f w

/-- What the body stores into the send buffer is the block that it loaded; -/
theorem pay1_eq (f : Vec F S1x256x256 .bf16) : k0_pay1 f = f := by
  unfold k0_pay1; exact (shapeCast_self _ _).trans (shapeCast_self _ _)
/-- what it stores into the result when the block stays, likewise. -/
theorem pay2_eq (f : Vec F S1x256x256 .bf16) : k0_pay2 f = f := by
  unfold k0_pay2; exact shapeCast_self _ _

/-! ## Reading a word -/

/-- A scalar load of one word of the staged permutation, whose value is known to be `w`: the program goes on at `w`. -/
theorem wp_word (c : Dev nD) (r : Rect S2) (h1 : r.shape.numel = 1) (hp : EltTy.i32.packing = 1)
    (f : (cc0_stg1_0 : Ref sig .tc).ty.Contents (Elt F)) (w : Elt F .i32)
    (hw : (piM.access r : View sig .tc _ _ _).read (Elt F) f (Shape.Idx.first (h1.symm ▸ Nat.one_pos)) = w)
    {α : Type} {Q : α → sProp 𝕄} {k : Elt F .i32 → Prog (TpuEff nD τ sig (Elt F) Λ₀ .tc) α} :
    (((c : Thread nD τ).loc cc0_stg1_0) ↦{fullShare} f : sProp 𝕄)
      ⊢ iprop(((((c : Thread nD τ).loc cc0_stg1_0) ↦{fullShare} f) -∗ wp frame (wpE (defs₀ (F := F)) 𝒱₀ (c : Thread nD τ) none) Set.univ (k w) Q)
          -∗ wp frame (wpE (defs₀ (F := F)) 𝒱₀ (c : Thread nD τ) none) Set.univ (smemLoad piM r h1 hp >>= k) Q) := by
  subst hw
  rw [show smemLoad piM r h1 hp >>= k = .op (.load piM r.toLoadRect (View.loadsAt_rect (View.loads_smem_one hp h1)))
    (fun g => k (g (Shape.Idx.first (h1.symm ▸ Nat.one_pos)))) from rfl]
  iintro Hp Hk
  iapply (wp_load_rect 𝒱₀ (c : Thread nD τ) none Set.univ (m := piM) (r := r) (Finset.subset_univ _)) $$ Hp
  iexact Hk

/-! ## The one point of the pipeline -/

/-- Buffer `b` of device `c`, whole, at contents equal to `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- What the pipeline calls owning a staging buffer is holding it so. -/
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]

/-- The block of `x` is fetched before the one point, -/
theorem fetch_x : (cfg0.win (0 : Fin 3)).fetch t0_0 = true := by decide +kernel
/-- and so is `pi`. -/
theorem fetch_pi : (cfg0.win (1 : Fin 3)).fetch t0_0 = true := by decide +kernel

/-- The result array after the run: its one block, all of it, is what the body left in the staging buffer. -/
theorem result_of {c : Dev nD} (D : Dat τ (Elt F) Unit ℕ UU ℕ cfg0 c) : D.arrAt (2 : Fin 3) cfg0.N = D.after (2 : Fin 3) t0_0 := by
  refine (read_out _).symm.trans ?_
  rw [show cfg0.N = ((0 : Fin 1) : Fin cfg0.N).val + 1 from rfl, D.arrAt_succ (2 : Fin 3) (0 : Fin 1)]
  rw [show (cfg0.win (2 : Fin 3)).flush (0 : Fin 1) = true from by decide +kernel, if_pos rfl]
  exact View.read_write_univ _ _

end Cert.Exchange

end
-- ==== Proof.Protocol.lean ====
/-
  The exchange of two peers, when the permutation exchanges the two positions of the axis z. Each device has three cells
  (a semaphore with the invariant that the peers share), each of one round with one duty:

  * cell 0, the barrier semaphore: the peer pays one unit, once it is inside the kernel; with the unit comes the peer's
    staging buffer of the result, at whatever it holds, which is where this device's block is to land;
  * cell 1, the send semaphore: the transfer pays the block's credit when it has read the send buffer; the send buffer
    comes back, still holding this device's block;
  * cell 2, the receive semaphore: the peer's transfer pays the block's credit when it has landed; this device's own
    staging buffer of the result comes back, holding the peer's block.

  At launch a device owes its peer's cells 0 and 2. It waits on cell 0 while it owes a cell 2, and on the other cells while
  it owes nothing, so cell 2 is placed above cell 0, and the pipeline's own cells below both.
-/
module

public import proofs.«01_k».proof.Proof.Common

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

/-- The runtime's barrier semaphore, -/
abbrev barS : Sem sig := (SemArray.scalar (sig.barrier 0 rfl) : Sems sig S_).sem
/-- the transfer's semaphore on the sending device -/
abbrev sendS : DmaSems sig S_ := cc0_scratch1
/-- and the one on the receiving device. -/
abbrev recvS : DmaSems sig S_ := cc0_scratch2

/-- The three semaphores of the exchange. -/
abbrev csem : Fin 3 → SemLoc sig := fun | 0 => .reg barS | 1 => .dma sendS.sem | 2 => .dma recvS.sem
/-- Device `ck.1`'s cell `ck.2`. -/
abbrev kcell (ck : Dev nD × Fin 3) : GSem nD τ sig := ((ck.1 : Thread nD τ), csem ck.2)

/-- Which of the three a semaphore is. -/
def kindOf (sm : SemLoc sig) : Option (Fin 3) :=
  if sm = csem 0 then some 0 else if sm = csem 1 then some 1 else if sm = csem 2 then some 2 else none

/-- Each cell's semaphore is of its kind. -/
theorem kindOf_csem (k : Fin 3) : kindOf (csem k) = some k := by revert k; decide
/-- A device's three cells are distinct, -/
theorem csem_injective : Function.Injective csem := fun k k' h => by
  have := congrArg kindOf h; rw [kindOf_csem, kindOf_csem] at this; exact Option.some.inj this

/-- and so are those of the mesh. -/
theorem kcell_injective : Function.Injective kcell := fun ⟨c, k⟩ ⟨c', k'⟩ h => by
  have h1 : c = c' := congrArg (fun g : GSem nD τ sig => g.1.1) h
  have h2 : k = k' := csem_injective (congrArg Prod.snd h)
  rw [h1, h2]

/-- The credit of one block's transfer. -/
abbrev N : ℕ := oM.view.dmaCredit
/-- A block's credit is positive. -/
theorem N_pos : 0 < N := View.dmaCredit_pos _ (by decide)

/-! ## What comes with each cell's round -/

/-- Device `c`'s staging buffer of the result, holding `f`. -/
def oPts (c : Dev nD) (f : Buf (Elt F) (oM.view.loc (c : Thread nD τ))) : sProp 𝕄 :=
  oM.view.loc (c : Thread nD τ) ↦[oM.view.set]{fullShare} f
/-- Device `c`'s send buffer, holding `f`. -/
def bPts (c : Dev nD) (f : Buf (Elt F) (bM.view.loc (c : Thread nD τ))) : sProp 𝕄 :=
  bM.view.loc (c : Thread nD τ) ↦[bM.view.set]{fullShare} f

omit [FloatOps F] in
/-- Ownership of the result's staging buffer, as the machine names it; -/
theorem oPts_eq (c : Dev nD) (f : Buf (Elt F) ((c : Thread nD τ).loc cc0_stg2_0)) :
    oPts c f = (((c : Thread nD τ).loc cc0_stg2_0) ↦{fullShare} f : sProp 𝕄) := by unfold oPts; rw [View.set_whole]
omit [FloatOps F] in
/-- of the send buffer. -/
theorem bPts_eq (c : Dev nD) (f : Buf (Elt F) ((c : Thread nD τ).loc cc0_scratch0)) :
    bPts c f = (((c : Thread nD τ).loc cc0_scratch0) ↦{fullShare} f : sProp 𝕄) := by unfold bPts; rw [View.set_whole]

/-- What device `c` gets with the round of its cell `k`. -/
def pay (c : Dev nD) : Fin 3 → sProp 𝕄
  | 0 => iprop(∃ f, oPts (peer c) f)
  | 1 => bPts c (xBlk m c)
  | 2 => oPts c (xBlk m (peer c))

omit [FloatOps F] in
/-- A payload may be stored in an invariant. -/
instance pay_storable (c : Dev nD) (k : Fin 3) : BI.Storable (upEmb : UEmb _ 𝕄) (pay m c k) := by
  fin_cases k
  · show BI.Storable upEmb iprop(∃ f, oPts (peer c) f); unfold oPts; infer_instance
  · show BI.Storable upEmb (bPts c (xBlk m c)); unfold bPts; infer_instance
  · show BI.Storable upEmb (oPts c (xBlk m (peer c))); unfold oPts; infer_instance

/-- How much the round of cell `k` pays. -/
def amt : Fin 3 → ℕ | 0 => 1 | 1 => N | 2 => N
/-- Each amount is positive. -/
theorem amt_pos (k : Fin 3) : 0 < amt k := by fin_cases k <;> first | exact Nat.one_pos | exact N_pos

/-- One round on each of the three cells of each device, with one duty. -/
def sched : Rounds.Schedule (GSem nD τ sig) Unit 𝕄 where
  duties g r := if r = 0 ∧ g.1.2 = .tc ∧ (kindOf g.2).isSome then {()} else ∅
  unitless _ := False
  amount g _ _ := (kindOf g.2).elim 1 amt
  payload g _ _ := (kindOf g.2).elim iprop(emp) (pay m g.1.1)
  amount_pos g _ _ _ := by cases kindOf g.2 <;> first | exact Nat.one_pos | exact amt_pos _

omit [FloatOps F] in
/-- So may every payload of the schedule. -/
instance sched_storable (g : GSem nD τ sig) (r : ℕ) (d : Unit) : BI.Storable (upEmb : UEmb _ 𝕄) ((sched (F := F) m).payload g r d) := by
  show BI.Storable upEmb ((kindOf g.2).elim iprop(emp) (pay m g.1.1))
  cases kindOf g.2 <;> (simp only [Option.elim]; infer_instance)

omit [FloatOps F] in
/-- Each cell's round has its one duty. -/
theorem duties_cell (ck : Dev nD × Fin 3) : (sched m).duties (kcell ck) 0 = {()} :=
  if_pos ⟨rfl, rfl, by rw [kindOf_csem]; rfl⟩
omit [FloatOps F] in
/-- That duty, as a member. -/
theorem mem_duties (ck : Dev nD × Fin 3) : () ∈ (sched m).duties (kcell ck) 0 := by rw [duties_cell]; exact Finset.mem_singleton_self _
omit [FloatOps F] in
/-- There is no later round. -/
theorem duties_later (g : GSem nD τ sig) (r : ℕ) (hr : 0 + 1 ≤ r) : (sched m).duties g r = ∅ := if_neg fun h => by omega
omit [FloatOps F] in
/-- The duty's amount, -/
theorem amount_cell (ck : Dev nD × Fin 3) : (sched m).amount (kcell ck) 0 () = amt ck.2 := by
  show (kindOf (csem ck.2)).elim 1 amt = _; rw [kindOf_csem]; rfl
omit [FloatOps F] in
/-- its payload, -/
theorem payload_cell (ck : Dev nD × Fin 3) : (sched m).payload (kcell ck) 0 () = pay m ck.1 ck.2 := by
  show (kindOf (csem ck.2)).elim iprop(emp) (pay m ck.1) = _; rw [kindOf_csem]; rfl
omit [FloatOps F] in
/-- and what the round waits for. -/
theorem expect_cell (ck : Dev nD × Fin 3) : (sched m).expect (kcell ck) 0 = amt ck.2 := by
  unfold Schedule.expect Schedule.amountOf; rw [duties_cell, Finset.sum_singleton, amount_cell]
omit [FloatOps F] in
/-- The whole round of a cell, none of it taken before, hands over the cell's payload. -/
theorem rest_cell (ck : Dev nD × Fin 3) :
    bigSep ((sched m).duties (kcell ck) 0 \ ∅) (fun d => (sched m).payload (kcell ck) 0 d) = (pay m ck.1 ck.2 : sProp 𝕄) := by
  rw [Finset.sdiff_empty, duties_cell, bigSep_singleton, payload_cell]

/-! ## What a device owes, and the levels -/

/-- What a device owes at launch: its peer's cell 2 the block's credit, its peer's cell 0 one unit. -/
def owed₀ (c : Dev nD) : CellTallies nD τ sig Unit := tallyAt (kcell (peer c, 2)) () N + tallyAt (kcell (peer c, 0)) () 1

/-- Every cell of a TensorCore has a level: -/
def L (g : GSem nD τ sig) : Finset Unit := if g.1.2 = .tc then {()} else ∅
/-- 1 for the barrier, 2 for the receive semaphore, 0 for all others. -/
def lv (g : GSem nD τ sig) (_ : Unit) : ℕ := if g.2 = csem 0 then 1 else if g.2 = csem 2 then 2 else 0

/-- The levels of the three cells. -/
theorem lv_cell (c : Dev nD) (k : Fin 3) (u : Unit) : lv (kcell (c, k)) u = ![1, 0, 2] k := by
  show (if csem k = csem 0 then 1 else if csem k = csem 2 then 2 else 0) = _
  revert k; decide

/-- Only the TensorCores' semaphores have levels. -/
theorem L_of_ne (g : GSem nD τ sig) (h : g.1.2 ≠ .tc) : L g = ∅ := if_neg h
/-- Each of those has its level. -/
theorem mem_L (c : Dev nD) (sm : SemLoc sig) (u : Unit) : u ∈ L ((c : Thread nD τ), sm) := by
  rw [show L ((c : Thread nD τ), sm) = {()} from if_pos rfl]; exact Finset.mem_singleton_self _

/-- What is owed on a cell 2 is owed there alone. -/
theorem owed_recv {c : Dev nD} {g : GSem nD τ sig} {u : Unit} (h : 0 < (tallyAt (kcell (c, 2)) () N : CellTallies nD τ sig Unit) g u) :
    g = kcell (c, 2) := by
  rw [tallyAt_apply] at h; by_contra hn; rw [if_neg fun h' => hn h'.1] at h; exact Nat.lt_irrefl 0 h

/-- What a device owes at launch lies on its peer's cells 0 and 2. -/
theorem owed₀_pos {c : Dev nD} {g : GSem nD τ sig} {u : Unit} (h : 0 < owed₀ c g u) : g = kcell (peer c, 2) ∨ g = kcell (peer c, 0) := by
  unfold owed₀ at h
  rw [Pi.add_apply, Finsupp.add_apply, tallyAt_apply, tallyAt_apply] at h
  by_contra hn
  rw [not_or] at hn
  rw [if_neg fun h' => hn.1 h'.1, if_neg fun h' => hn.2 h'.1] at h
  exact Nat.lt_irrefl 0 h

omit [FloatOps F] in
/-- The pipeline waits for its own transfers, whether the device still owes or not: what it owes lies above. -/
theorem mayWait_low (c : Dev nD) (sm : SemLoc sig) (h : lv ((c : Thread nD τ), sm) () = 0) (O : CellTallies nD τ sig Unit)
    (hO : O = owed₀ c ∨ O = 0) : (levAts L lv : sProp 𝕄) ⊢ MayWait (c : Thread nD τ) sm () O := by
  rcases hO with rfl | rfl
  · refine MayOwe.of_cut (L := L) (lev := lv) 0 (fun p hp => by rw [Finset.mem_singleton.mp hp]; exact mem_L _ _ _)
      (fun g u hg => by rcases owed₀_pos hg with rfl | rfl <;> exact mem_L _ _ _)
      (fun p hp => by rw [Finset.mem_singleton.mp hp]; exact h.le)
      (fun g u hg => by rcases owed₀_pos hg with rfl | rfl <;> rw [lv_cell] <;> decide)
  · rw [MayWait_zero]; iintro -; iempintro

omit [FloatOps F] in
/-- A device waits on its cell 0 while it owes its peer's cell 2. -/
theorem mayWait_bar (c : Dev nD) : (levAts L lv : sProp 𝕄) ⊢ MayWait (c : Thread nD τ) (csem 0) () (tallyAt (kcell (peer c, 2)) () N) :=
  MayOwe.of_cut (L := L) (lev := lv) 1 (fun p hp => by rw [Finset.mem_singleton.mp hp]; exact mem_L _ _ _)
    (fun g u hg => by rw [owed_recv hg]; exact mem_L _ _ _)
    (fun p hp => by rw [Finset.mem_singleton.mp hp]; exact (lv_cell c 0 ()).le)
    (fun g u hg => by rw [owed_recv hg, lv_cell]; decide)

/-! ## What a device starts from and ends with -/

/-- The invariants of all cells under the names `K`, and that every cell has reached its round. -/
def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

/-- The records are facts. -/
instance records_persistent (K : Dev nD × Fin 3 → ℕ) : BI.Persistent (records m K) := by unfold records; infer_instance

omit [FloatOps F] in
/-- They give each cell's invariant, -/
theorem records_inv (K : Dev nD × Fin 3 → ℕ) (ck : Dev nD × Fin 3) : records m K ⊢ (cellInv ER (sched m) (K ck) (kcell ck) : sProp 𝕄) := by
  have h : (bigSep Finset.univ fun ck : Dev nD × Fin 3 => (cellInv ER (sched m) (K ck) (kcell ck) : sProp 𝕄)) ⊢ cellInv ER (sched m) (K ck) (kcell ck) :=
    bigSep_elim (Finset.mem_univ ck)
  unfold records; iintro ⟨HI, -⟩; iapply h; iexact HI
omit [FloatOps F] in
/-- and that its first round has begun. -/
theorem records_reached (K : Dev nD × Fin 3 → ℕ) (ck : Dev nD × Fin 3) : records m K ⊢ (reached ER (kcell ck) 0 : sProp 𝕄) := by
  have h : (bigSep Finset.univ fun ck : Dev nD × Fin 3 => (reached ER (kcell ck) 0 : sProp 𝕄)) ⊢ reached ER (kcell ck) 0 :=
    bigSep_elim (Finset.mem_univ ck)
  unfold records; iintro ⟨-, HR⟩; iapply h; iexact HR

/-- A device's positions, at the start of its three cells' round. -/
def places (c : Dev nD) : sProp 𝕄 :=
  iprop(atPos ER (kcell (c, 0)) 0 ∅ 0 ∗ atPos ER (kcell (c, 1)) 0 ∅ 0 ∗ atPos ER (kcell (c, 2)) 0 ∅ 0)
/-- The duties it pays: its peer's cells 0 and 2, its own cell 1. -/
def dues (c : Dev nD) : sProp 𝕄 :=
  iprop(dutyTok ER (kcell (peer c, 0)) 0 () ∗ dutyTok ER (kcell (c, 1)) 0 () ∗ dutyTok ER (kcell (peer c, 2)) 0 ())
/-- The exchange's ghost state on device `c`, at some names. -/
def ghost (c : Dev nD) : sProp 𝕄 := iprop(∃ K, records m K ∗ places c ∗ dues c)

/-- What the body starts from: that, the credit for what is owed to its cells 0 and 2, and the levels; -/
def start (c : Dev nD) : sProp 𝕄 :=
  iprop(ghost m c ∗ cred (tallyAt (kcell (c, 0)) () 1) ∗ cred (tallyAt (kcell (c, 2)) () N) ∗ levAts L lv)
/-- what it ends with: its three semaphores, at zero again. -/
def finish (c : Dev nD) : sProp 𝕄 := iprop(semVal (kcell (c, 0)) 0 ∗ semVal (kcell (c, 1)) 0 ∗ semVal (kcell (c, 2)) 0)

/-- The pipeline's data of the exchange: the arrays as launched; after the body the staged inputs as they were and the
    result's staging buffer at the peer's block. -/
def dats (_ : Fin 1) (c : Dev nD) : Dat τ (Elt F) Unit ℕ UU ℕ cfg0 c where
  A w := m ((cfg0.win w).arr.view.loc (c : Thread nD τ))
  after w _ := match w with
    | ⟨0, _⟩ => xBlk m c
    | ⟨1, _⟩ => piBlk m c
    | ⟨2, _⟩ => xBlk m (peer c)
  Φ t := match t with
    | ⟨0, _⟩ => iprop(start m c ∗ ∃ f, bPts c f)
    | ⟨_ + 1, _⟩ => iprop(finish c ∗ ∃ f, bPts c f)
  q _ := fullShare
  owed t := match t with
    | ⟨0, _⟩ => owed₀ c
    | ⟨_ + 1, _⟩ => 0

end Cert.Exchange

end
-- ==== Proof.SwapBody.lean ====
/-
  The body of the kernel on one device when the permutation exchanges the two positions of the axis z, run one effect at a
  time against the exchange's protocol (`Protocol.lean`): it ends with the peer's block in its staging buffer of the result.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the two words decide -/

/-- With the words of an exchange the kernel takes the branch that communicates, -/
theorem swap_cond (c : Dev nD) : k0_cond1 c (BitVec.ofNat 32 (1 - c.val % 2)) = 1#1 := by revert c; decide
/-- its signal goes to the peer, -/
theorem swap_dev1 (c : Dev nD) : k0_dev1 c 1#32 = (peer c).val := by revert c; decide
/-- its transfer goes to the peer, -/
theorem swap_dev2 (c : Dev nD) : k0_dev2 c (BitVec.ofNat 32 (1 - c.val % 2)) = (peer c).val := by revert c; decide
/-- and it does not take the branch that copies its own block. -/
theorem swap_cond' (c : Dev nD) :
    ¬ Scalar.cmpi .ne (Scalar.extui (Scalar.cmpi .eq (BitVec.ofNat 32 (1 - c.val % 2)) (Scalar.remsi (Scalar.divsi (Dev.word c) 1#32) 2#32)) : BitVec 32) 0#32 = 1#1 := by
  revert c; decide
/-- The addressee of the transfer is a device of the mesh. -/
theorem swap_chk2 (c : Dev nD) : k0_chk2 c (BitVec.ofNat 32 (1 - c.val % 2)) := fun _ => by rw [swap_dev2]; exact (peer c).isLt

/-! ## One rule per effect -/

section Rules

variable (K : Dev nD × Fin 3 → ℕ)

/-- The signal to the peer: one unit of its cell 0, and with it this device's staging buffer of the result. -/
theorem rule_signal (c n : Dev nD) (hn : n = peer c) (f : Buf (Elt F) (oM.view.loc (c : Thread nD τ))) (W : Waits sig Unit)
    {α : Type} {Q : α → sProp 𝕄} {k : PUnit → Prog (TpuEff nD τ sig (Elt F) Λ₀ .tc) α} :
    iprop(records m K ∗ owes (c : Thread nD τ) (owed₀ c) W ∗ dutyTok ER (kcell (peer c, 0)) 0 () ∗ oPts c f)
      ⊢ iprop((owes (c : Thread nD τ) (tallyAt (kcell (peer c, 2)) () N) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS (1#32 : BitVec 32).toInt) k) Q) := by
  subst hn
  rw [show (1#32 : BitVec 32).toInt = ((1 : ℕ) : Int) from rfl]
  iintro ⟨#HR, HO, Ht, Hf⟩ Hk
  iapply (Rounds.wp_signal 𝒱₀ ER (sched m) (c : Thread nD τ) none (dst := (peer c : Thread nD τ)) (κ := K (peer c, 0))
      (mem_duties m (peer c, 0)) (amount_cell m (peer c, 0)) () (O₀ := owed₀ c) (tallyAt (kcell (peer c, 2)) () N) rfl) $$ [HO Ht Hf]
  · isplitr; · iapply (records_inv m K (peer c, 0)); iexact HR
    isplitl [HO]; · iexact HO
    isplitl [Ht]; · iexact Ht
    isplitl [Hf]
    · rw [payload_cell m (peer c, 0)]; unfold pay; rw [peer_peer]; iexists f; iexact Hf
    iapply (records_reached m K (peer c, 0)); iexact HR
  iexact Hk

/-- A wait for the whole round of one of the device's own cells: what the round hands over comes with it, and the
    semaphore is the device's own again, at zero. -/
theorem rule_wait (c : Dev nD) (j : Fin 3) {w : TpuEff nD τ sig (Elt F) Λ₀ .tc PUnit} {k' : ℕ} (hk : k' = amt j)
    (hw : ∀ X : PUnit → sProp 𝕄, wpE (defs₀ (F := F)) 𝒱₀ (c : Thread nD τ) none Set.univ w X = waitSpec (c : Thread nD τ) Set.univ (csem j) k' X)
    (O : CellTallies nD τ sig Unit) (hO : (levAts L lv : sProp 𝕄) ⊢ MayWait (c : Thread nD τ) (csem j) () O) (W : Waits sig Unit)
    {α : Type} {Q : α → sProp 𝕄} {k : PUnit → Prog (TpuEff nD τ sig (Elt F) Λ₀ .tc) α} :
    iprop(records m K ∗ levAts L lv ∗ cred (tallyAt (kcell (c, j)) () (amt j)) ∗ owes (c : Thread nD τ) O W ∗ atPos ER (kcell (c, j)) 0 ∅ 0)
      ⊢ iprop(((owes (c : Thread nD τ) O (insert (csem j, ()) W) ∗ semVal (kcell (c, j)) 0 ∗ pay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hk
  iintro ⟨#HR, #HL, Hc, HO, Hat⟩ Hk
  iapply (Rounds.wp_wait_rest_token 𝒱₀ ER (sched m) (c : Thread nD τ) none (κ := K (c, j)) hw (Set.mem_univ _) () (O := O) (W := W)
      (R := 0) (m := 0) (T := ∅) (by rw [Nat.zero_add]; exact (expect_cell m (c, j)).symm)) $$ [Hc HO Hat]
  · isplitr; · iapply (records_inv m K (c, j)); iexact HR
    isplitl [Hc]; · iexact Hc
    isplitl [HO]; · iexact HO
    isplitr; · iapply hO; iexact HL
    iexact Hat
  iintro ⟨HO, Hat, -, Hp⟩
  ihave Hp := (Entails.of_eq (rest_cell m (c, j))) $$ Hp
  imod (Rounds.cell_close ER (sched m) (Set.mem_univ (K (c, j))) (fun h => h) (R := 0 + 1) (duties_later m (kcell (c, j)))) $$ [Hat] with Hz
  · isplitr; · iapply (records_inv m K (c, j)); iexact HR
    iexact Hat
  iapply Hk
  isplitl [HO]; · iexact HO
  isplitl [Hz] <;> iassumption

omit [FloatOps F] in
/-- The transfer of a send buffer into a staging buffer of the result leaves there what was sent. -/
theorem landed_eq (fd : (cc0_stg2_0 : Ref sig .tc).ty.Contents (Elt F)) (fs : (cc0_scratch0 : Ref sig .tc).ty.Contents (Elt F)) :
    oM.view.write (Elt F) fd (bM.view.read (Elt F) fs) Finset.univ = fs := by
  show (View.whole cc0_stg2_0).write (Elt F) fd ((View.whole cc0_scratch0).read (Elt F) fs) Finset.univ = fs
  rw [View.read_whole]
  exact View.write_whole_univ _ _ _

/-- The transfer of this device's block into the peer's staging buffer of the result. -/
theorem rule_send (c n : Dev nD) (hn : n = peer c) {hsc : (oM : Memref sig (Dev.tc n : Thread nD τ).2.kind .vmem S1x256x256 .bf16).view.ref.isScScratch = false}
    {hsrc : bM.view.WordExact} {hdst : (oM : Memref sig .tc .vmem S1x256x256 .bf16).view.WordExact}
    {hsem : DmaTarget.Typed .vmem (.dma recvS.sem) (.remote (Dev.tc n : Thread nD τ) (oM : Memref sig .tc .vmem S1x256x256 .bf16) (.dma sendS.sem) hsc)}
    {α : Type} {Q : α → sProp 𝕄} {k : PUnit → Prog (TpuEff nD τ sig (Elt F) Λ₀ .tc) α}
    (fn : Buf (Elt F) (oM.view.loc (peer c : Thread nD τ))) (W : Waits sig Unit) :
    iprop(records m K ∗ bPts c (xBlk m c) ∗ oPts (peer c) fn ∗ owes (c : Thread nD τ) (tallyAt (kcell (peer c, 2)) () N) W
        ∗ dutyTok ER (kcell (c, 1)) 0 () ∗ dutyTok ER (kcell (peer c, 2)) 0 ())
      ⊢ iprop(((cred (tallyAt (kcell (c, 1)) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma bM (.remote (Dev.tc n : Thread nD τ) oM (.dma sendS.sem) hsc) (.dma recvS.sem) hsrc hdst hsem) k) Q) := by
  subst hn
  iintro ⟨#HR, Hb, Ho, HO, Ht1, Ht2⟩ Hk
  unfold oPts bPts
  iapply (Rounds.wp_send_pointsTo 𝒱₀ ER (sched m) (c : Thread nD τ) none (κ₁ := K (c, 1)) (κ₂ := K (peer c, 2))
    (r₁ := 0) (r₂ := 0) (d₁ := ()) (d₂ := ()) (fd := fn) (mem_duties m (c, 1)) (mem_duties m (peer c, 2))
    () () N rfl (amount_cell m (c, 1)) (amount_cell m (peer c, 2)) 0 (by rw [zero_add]) (W := W)
    (by rw [payload_cell m (c, 1)]; exact BI.Entails.refl _)
    (by rw [payload_cell m (peer c, 2)]; unfold pay oPts; rw [peer_peer, landed_eq])) $$ [Hb Ho HO Ht1 Ht2]
  · isplitr; · iapply (records_inv m K (c, 1)); iexact HR
    isplitr; · iapply (records_inv m K (peer c, 2)); iexact HR
    isplitl [Hb]; · iexact Hb
    isplitl [Ho]; · iexact Ho
    isplitl [HO]; · iexact HO
    isplitl [Ht1]; · iexact Ht1
    isplitr; · iapply (records_reached m K (c, 1)); iexact HR
    isplitl [Ht2]; · iexact Ht2
    iapply (records_reached m K (peer c, 2)); iexact HR
  iexact Hk

end Rules

/-! ## The body -/

/-- What the body gets at the pipeline's one point; -/
def before (c : Dev nD) : sProp 𝕄 :=
  iprop((start m c ∗ ∃ f, bPts c f) ∗ (dats m 0 c).owesAt () (t0_0 : Fin cfg0.N).castSucc
    ∗ (∃ d, held c cc0_stg0_0 ((dats m 0 c).before (0 : Fin 3) t0_0 d))
    ∗ (∃ d, held c cc0_stg1_0 ((dats m 0 c).before (1 : Fin 3) t0_0 d))
    ∗ (∃ d, held c cc0_stg2_0 ((dats m 0 c).before (2 : Fin 3) t0_0 d)))
/-- what it leaves. -/
def after (c : Dev nD) : sProp 𝕄 :=
  iprop((finish (F := F) c ∗ ∃ f, bPts c f) ∗ (dats m 0 c).owesAt () (t0_0 : Fin cfg0.N).succ
    ∗ held c cc0_stg0_0 (xBlk m c) ∗ held c cc0_stg1_0 (piBlk m c) ∗ held c cc0_stg2_0 (xBlk m (peer c)))

variable {m}

set_option maxHeartbeats 4000000 in
/-- The body, from `before` to `after`. -/
theorem body (h : Swaps m) (c : Dev nD) (Kt : PUnit → sProp 𝕄) :
    iprop(before m c ∗ (after m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [Prog.lift, Prog.bind_op, Prog.bind_ret, Prog.pure_eq_ret, Prog.bind_assoc, wp_deviceId]
  unfold before start ghost places dues
  iintro ⟨⟨⟨⟨⟨%K, #HR, ⟨Ha0, Ha1, Ha2⟩, Ht0, Ht1, Ht2⟩, Hc0, Hc2, #Hlev⟩, ⟨%fb, Hb⟩⟩, Ho, ⟨%d0, %g0, %hg0, Hx⟩, ⟨%d1, %g1, %hg1, Hpi⟩, ⟨%d2, %g2, %hg2, Hout⟩⟩, Hk⟩
  obtain rfl : g0 = xBlk m c := by rw [hg0]; unfold Dat.before; rw [if_pos fetch_x]; rfl
  obtain rfl : g1 = piBlk m c := by rw [hg1]; unfold Dat.before; rw [if_pos fetch_pi]; rfl
  unfold Dat.owesAt Pipeline.owesWithin
  icases Ho with ⟨%W, %hW, HO⟩
  rw [show (dats m 0 c).owed (t0_0 : Fin cfg0.N).castSucc = owed₀ c from rfl]
  -- the two words
  iapply (wp_word c (ownR c) _ _ _ _ (h.own c)) $$ Hpi; iintro Hpi
  simp only [wp_assume_of _ _ _ _ (d := k0_chk2.dec _ _) (swap_chk2 c)]
  iapply (wp_word c fstR _ _ _ _ (h.fst c)) $$ Hpi; iintro Hpi
  simp only [wp_assume_of _ _ _ _ (d := k0_chk1.dec _ _ _) (k0_chk1_all c _ _)]
  -- what they decide
  simp only [dif_pos (swap_cond c), if_neg (swap_cond' c), semSignalWord, semWaitWord, Prog.bind_op, Prog.bind_ret]
  -- the signal
  iapply (rule_signal m K c _ (Fin.ext (swap_dev1 c)) g2 W) $$ [HO Ht0 Hout]
  · isplitr; · iexact HR
    isplitl [HO]; · iexact HO
    isplitl [Ht0]; · iexact Ht0
    rw [oPts_eq]; iexact Hout
  iintro HO
  -- the block of `x` goes into the send buffer
  iapply (wp_load 𝒱₀ (c : Thread nD τ) none Set.univ (m := xM) (Finset.subset_univ _)) $$ Hx; iintro Hx
  rw [load_x]
  ihave Hb := (Entails.of_eq (bPts_eq c fb)) $$ Hb
  iapply (wp_load 𝒱₀ (c : Thread nD τ) none Set.univ (m := bM) (Finset.subset_univ _)) $$ Hb; iintro Hb
  iapply (wp_store 𝒱₀ (c : Thread nD τ) none Set.univ (m := bM) (r := allR) (Mk := Finset.univ) (Finset.subset_univ _)) $$ Hb; iintro Hb
  rw [store_b, pay1_eq]
  -- the wait for the peer's unit
  iapply (rule_wait m K c 0 (by rfl) (wpE_semWait_eq 𝒱₀ (c : Thread nD τ) none Set.univ) _ (mayWait_bar c) W) $$ [Hc0 HO Ha0]
  · isplitr; · iexact HR
    isplitr; · iexact Hlev
    isplitl [Hc0]; · iexact Hc0
    isplitl [HO] <;> iassumption
  iintro ⟨HO, Hz0, Hp⟩
  unfold pay
  icases Hp with ⟨%fn, Hn⟩
  -- the transfer
  iapply (rule_send m K c _ (Fin.ext (swap_dev2 c)) fn _) $$ [Hb Hn HO Ht1 Ht2]
  · isplitr; · iexact HR
    isplitl [Hb]; · rw [bPts_eq]; iexact Hb
    isplitl [Hn]; · iexact Hn
    isplitl [HO]; · iexact HO
    isplitl [Ht1] <;> iassumption
  iintro ⟨Hc1, HO⟩
  -- the send buffer back
  iapply (rule_wait m K c 1 (by rfl) (wpE_waitDma2_eq 𝒱₀ (c : Thread nD τ) none Set.univ) 0 (mayWait_low c _ (lv_cell c 1 ()) 0 (.inr rfl)) _) $$ [Hc1 HO Ha1]
  · isplitr; · iexact HR
    isplitr; · iexact Hlev
    isplitl [Hc1]; · iexact Hc1
    isplitl [HO] <;> iassumption
  iintro ⟨HO, Hz1, Hb⟩
  -- the result's staging buffer back, with the peer's block
  iapply (rule_wait m K c 2 (by rfl) (wpE_waitDma2_eq 𝒱₀ (c : Thread nD τ) none Set.univ) 0 (by rw [MayWait_zero]; iintro -; iempintro) _) $$ [Hc2 HO Ha2]
  · isplitr; · iexact HR
    isplitr; · iexact Hlev
    isplitl [Hc2]; · iexact Hc2
    isplitl [HO] <;> iassumption
  iintro ⟨HO, Hz2, Hout⟩
  unfold pay
  rw [wp_ret]; imodintro
  iapply Hk
  unfold after finish Dat.owesAt Pipeline.owesWithin
  rw [show (dats m 0 c).owed (t0_0 : Fin cfg0.N).succ = 0 from rfl]
  isplitl [Hz0 Hz1 Hz2 Hb]
  · isplitl [Hz0 Hz1 Hz2]
    · isplitl [Hz0]; · iexact Hz0
      isplitl [Hz1] <;> iassumption
    iexists _; iexact Hb
  isplitl [HO]
  · iexists _
    isplitr; rotate_left; · iexact HO
    ipureintro; exact fun _ _ => Or.inl trivial
  isplitl [Hx]
  · iexists _; isplitr; · (ipureintro; rfl)
    iexact Hx
  isplitl [Hpi]
  · iexists _; isplitr; · (ipureintro; rfl)
    iexact Hpi
  iexists _; isplitr; · (ipureintro; rfl)
  ihave Hout := (Entails.of_eq (oPts_eq c _)) $$ Hout
  iexact Hout

set_option maxRecDepth 4000 in
/-- The pipeline's obligation for the body. -/
theorem body_obligation (h : Swaps m) (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_held]
  show before m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => after m c)
  iintro H
  iapply (body h c fun _ => after m c)
  isplitl [H]; · iexact H
  iintro H; iexact H

end Cert.Exchange

end
-- ==== Proof.SwapRun.lean ====
/-
  The run of the whole mesh when the permutation exchanges the two positions of the axis z: the exchange's cells allocated
  for all devices at once, their tokens dealt to the devices that pay with them, and the launch. Every execution
  terminates, with each device's result at its peer's block of `x`, the arguments as they were and every semaphore at zero.
-/
module

public import proofs.«01_k».proof.Proof.SwapBody
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: send and receive. -/
abbrev osem : Fin 2 → SemLoc sig := fun | 0 => csem 1 | 1 => csem 2
/-- The semaphores the kernel owns are scoped ones, none of them the pipeline's. -/
theorem ownSemFacts : Pipeline.OwnSemFacts cfg0.spec osem := by decide

omit [FloatOps F] in
/-- A separating conjunction over three indices, spelled out. -/
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A device's scoped semaphores are its cells 1 and 2. -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0) := by
  rw [Pipeline.ownSems0_eq_of_list c osem [0, 1] (by decide) (by decide)]; rfl
omit [FloatOps F] in
/-- The barrier semaphore is the one that outlives the kernel. -/
theorem unscopedSems0_eq (c : Dev nD) : (unscopedSems0 c : sProp 𝕄) = semVal (kcell (c, 0)) 0 := by
  unfold unscopedSems0; rw [bigSep_eq_bigSepL_of_eq [csem 0] (by decide) (by decide)]; rfl

omit [FloatOps F] in
/-- A device's semaphores are its three cells. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨H1, H2⟩, H0⟩
  isplitl [H0]; · iexact H0
  isplitl [H1] <;> iassumption

/-! ## The exchange's ghost state, made at launch -/

/-- The cells, -/
def cells : Finset (GSem nD τ sig) := Finset.univ.map ⟨kcell, kcell_injective⟩
/-- and the token of each one's duty. -/
def tokens : Finset (GSem nD τ sig × ℕ × Unit) :=
  Finset.univ.map ⟨fun ck : Dev nD × Fin 3 => (kcell ck, 0, ()), fun _ _ h => kcell_injective (congrArg Prod.fst h)⟩

/-- The ghost state at launch: the pipelines' cells, and the exchange's. -/
def u₀ : UU := (initOf (Pipeline.cells cfgs cellOf_inj) (Pipeline.launchToks cfgs cellOf_inj), initOf cells tokens)

/-- What the launch makes for device `c`: of each of its three cells, the state, the position, the mark and the token. -/
def made (c : Dev nD) : sProp 𝕄 :=
  iprop((bigSep Finset.univ fun k : Fin 3 => roundState ER (sched m) (kcell (c, k)) 0) ∗ (bigSep Finset.univ fun k : Fin 3 => atPos ER (kcell (c, k)) 0 ∅ 0)
    ∗ (bigSep Finset.univ fun k : Fin 3 => reached ER (kcell (c, k)) 0) ∗ bigSep Finset.univ fun k : Fin 3 => dutyTok ER (kcell (c, k)) 0 ())

omit [FloatOps F] in
/-- What the exchange's ghost state at launch pays for. -/
theorem fund_made : BI.own (ER (initOf cells tokens)) ⊢ (|==> bigSep Finset.univ (made m) : sProp 𝕄) := by
  have hX (Φ : GSem nD τ sig → sProp 𝕄) : bigSep cells Φ = bigSep Finset.univ fun c : Dev nD => bigSep Finset.univ fun k : Fin 3 => Φ (kcell (c, k)) := by
    unfold cells; rw [bigSep_map, bigSep_univ_prod]; rfl
  have hT : bigSep tokens (fun x => (dutyTok ER x.1 x.2.1 x.2.2 : sProp 𝕄))
      = bigSep Finset.univ fun c : Dev nD => bigSep Finset.univ fun k : Fin 3 => dutyTok ER (kcell (c, k)) 0 () := by
    unfold tokens; rw [bigSep_map, bigSep_univ_prod]; rfl
  iintro HX
  imod (Rounds.fund ER (sched m) cells tokens) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold made; simp only [bigSep_sep']
  isplitl [Hst]; · iexact Hst
  isplitl [Hat]; · iexact Hat
  isplitl [Hr] <;> iassumption

omit [FloatOps F] in
/-- The tokens go to the devices that pay with them: those of cells 0 and 2 to the peer. -/
theorem deal : (bigSep Finset.univ fun c : Dev nD => bigSep Finset.univ fun k : Fin 3 => (dutyTok ER (kcell (c, k)) 0 () : sProp 𝕄))
    ⊢ bigSep Finset.univ fun c : Dev nD => dues c := by
  unfold dues
  simp only [bigSep_fin3]
  rw [bigSep_sep', bigSep_sep', bigSep_sep', bigSep_sep',
    bigSep_univ_equiv peers (fun c : Dev nD => (dutyTok ER (kcell (c, 0)) 0 () : sProp 𝕄)),
    bigSep_univ_equiv peers (fun c : Dev nD => (dutyTok ER (kcell (c, 2)) 0 () : sProp 𝕄))]
  exact BI.Entails.refl _

omit [FloatOps F] in
/-- A device's part, with the records of all. -/
theorem ghost_of (K : Dev nD × Fin 3 → ℕ) (c : Dev nD) : iprop(records m K ∗ (places c ∗ dues c)) ⊢ (ghost m c : sProp 𝕄) := by
  unfold ghost; iintro H; iexists K; iexact H

omit [FloatOps F] in
/-- All devices' cells become invariants under one step, and each device gets its ghost state. -/
theorem alloc : (bigSep Finset.univ fun c => iprop(Pipeline.ownSems0 (Ix := Unit) (Name := ℕ) (U := UU) (Lvl := ℕ) (Val := Elt F) (τ := τ) osem c ∗ unscopedSems0 c ∗ made m c) : sProp 𝕄)
    ⊢ |={Set.univ}=> bigSep Finset.univ (ghost m) := by
  have hinv : iprop((bigSep Finset.univ fun c : Dev nD => bigSep Finset.univ fun k : Fin 3 => semVal (kcell (c, k)) 0)
        ∗ bigSep Finset.univ fun c : Dev nD => bigSep Finset.univ fun k : Fin 3 => roundState ER (sched m) (kcell (c, k)) 0)
      ⊢ (|={Set.univ}=> bigSep Finset.univ fun ck : Dev nD × Fin 3 => iprop(∃ κ : ℕ, cellInv ER (sched m) κ (kcell ck)) : sProp 𝕄) := by
    rw [← bigSep_univ_prod fun ck : Dev nD × Fin 3 => (semVal (kcell ck) 0 : sProp 𝕄),
      ← bigSep_univ_prod fun ck : Dev nD × Fin 3 => (roundState ER (sched m) (kcell ck) 0 : sProp 𝕄), ← bigSep_sep']
    exact (bigSep_mono fun ck _ => (Rounds.body_intro ER (sched m) (kcell ck)).trans inv_alloc).trans (bigSep_fupd _ _)
  have hsem : (bigSep Finset.univ fun c : Dev nD => iprop(Pipeline.ownSems0 (Ix := Unit) (Name := ℕ) (U := UU) (Lvl := ℕ) (Val := Elt F) (τ := τ) osem c ∗ unscopedSems0 c) : sProp 𝕄)
      ⊢ bigSep Finset.univ fun c : Dev nD => bigSep Finset.univ fun k : Fin 3 => semVal (kcell (c, k)) 0 := bigSep_mono fun c _ => sems_eq c
  have hfin (K : Dev nD × Fin 3 → ℕ) : iprop(records m K ∗ bigSep Finset.univ fun c : Dev nD => iprop(places c ∗ dues c)) ⊢ (bigSep Finset.univ (ghost m) : sProp 𝕄) :=
    (sep_mono_left (BI.bigSep_of_persistent Finset.univ (records m K))).trans (by rw [← bigSep_sep']; exact bigSep_mono fun c _ => ghost_of m K c)
  unfold made
  simp only [bigSep_sep']
  rw [bigSep_sep'] at hsem
  iintro ⟨Hos, Hus, Hst, Hat, Hr, Htok⟩
  ihave Hv := hsem $$ [Hos Hus]
  · isplitl [Hos] <;> iassumption
  imod hinv $$ [Hv Hst] with HI
  · isplitl [Hv] <;> iassumption
  ihave HK := (BI.bigSep_exists_pi Finset.univ (fun (ck : Dev nD × Fin 3) (κ : ℕ) => (cellInv ER (sched m) κ (kcell ck) : sProp 𝕄))) $$ HI
  icases HK with ⟨%K, HI⟩
  ihave Hd := (deal (F := F)) $$ Htok
  imodintro
  iapply (hfin K)
  isplitl [HI Hr]
  · unfold records
    isplitl [HI]; · iexact HI
    iapply (Entails.of_eq (bigSep_univ_prod fun ck : Dev nD × Fin 3 => (reached ER (kcell ck) 0 : sProp 𝕄)).symm); iexact Hr
  · iapply (Entails.of_eq (bigSep_sep' Finset.univ (places (F := F)) dues).symm)
    isplitl [Hat]
    · iapply (Entails.of_eq (bigSep_congr (s := Finset.univ) fun (c : Dev nD) _ => by unfold places; exact (bigSep_fin3 (F := F) fun k => atPos ER (kcell (c, k)) 0 ∅ 0)))
      iexact Hat
    iexact Hd

/-! ## The credit at launch -/

/-- Cells are the same when device and number are. -/
theorem kcell_eq_iff {a b : Dev nD} {k j : Fin 3} : Iff (kcell (a, k) = kcell (b, j)) (a = b ∧ k = j) :=
  ⟨fun h => Prod.mk.inj (kcell_injective h), fun h => by rw [h.1, h.2]⟩

/-- What device `d` owes device `c`'s cell `k`, one of 0 and 2: the cell's whole round if it is the peer. -/
theorem owed₀_at (d c : Dev nD) (k : Fin 3) (hk : k ≠ 1) : owed₀ d (kcell (c, k)) () = if d = peer c then amt k else 0 := by
  unfold owed₀
  rw [Pi.add_apply, Finsupp.add_apply, tallyAt_apply, tallyAt_apply]
  simp only [kcell_eq_iff]
  have hp : c = peer d ↔ d = peer c := ⟨fun h => by rw [h, peer_peer], fun h => by rw [h, peer_peer]⟩
  simp only [hp]
  by_cases hd : d = peer c
  · fin_cases k
    · simp [hd, amt]
    · exact absurd rfl hk
    · simp [hd, amt]
  · simp [hd]

omit [FloatOps F] in
/-- What is owed at launch on a cell 0 or 2: its amount, by the peer. -/
theorem launch_at (c : Dev nD) (k : Fin 3) (hk : k ≠ 1) :
    tallyOn (kcell (c, k)) (launchCredit (Pipeline.owing owed₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owed₀_at d c k hk,
    Finset.sum_ite_eq' Finset.univ (peer c) fun _ => amt k, if_pos (Finset.mem_univ _)]

omit [FloatOps F] in
/-- A device's credits at launch. -/
theorem creds (c : Dev nD) : (Pipeline.launchCred owed₀ c : sProp 𝕄) ⊢ iprop(cred (tallyAt (kcell (c, 0)) () 1) ∗ cred (tallyAt (kcell (c, 2)) () N)) := by
  unfold Pipeline.launchCred
  rw [bigSep_univ_at _ (csem 0), launch_at c 0 (by decide)]
  refine sep_mono_right ?_
  rw [show N = amt 2 from rfl, ← launch_at c 2 (by decide)]
  exact bigSep_elim (Finset.mem_erase.mpr ⟨show csem 2 ≠ csem 0 by decide, Finset.mem_univ _⟩)

/-! ## The launch -/

/-- Each window's share is the whole. -/
theorem share_eq (c : Dev nD) (w : Fin cfg0.W) : (dats m 0 c).share w = fullShare := by unfold Dat.share; split <;> rfl

omit [FloatOps F] in
/-- A device's part at the start of the kernel. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ ghost m c)
      ⊢ |={Set.univ}=> iprop(start m c ∗ (emp : sProp 𝕄)) := by
  iintro ⟨-, Hlev, Hcr, -, HG⟩
  ihave Hc := (creds (F := F) c) $$ Hcr
  icases Hc with ⟨H0, H2⟩
  imodintro
  unfold start
  isplitl
  · isplitl [HG]; · iexact HG
    isplitl [H0]; · iexact H0
    isplitl [H2] <;> iassumption
  · iempintro

/-- Entering the region, -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ ∃ f, bPts c f) from rfl, scopedRest0_eq]
  iintro ⟨Hs, -, ⟨%f, Hb⟩⟩
  isplitl [Hs]; · iexact Hs
  iexists f; rw [bPts_eq]; iexact Hb

/-- and leaving it. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(finish c ∗ ∃ f, bPts c f) from rfl, scopedRest0_eq, ownSems0_eq, unscopedSems0_eq]
  unfold finish
  iintro ⟨⟨H0, H1, H2⟩, ⟨%f, Hb⟩⟩
  isplitl [H0]; · iexact H0
  isplitl [H1 H2]
  · isplitl [H1] <;> iassumption
  iexists f; ihave Hb := (Entails.of_eq (bPts_eq c f)) $$ Hb; iexact Hb

/-- The staging waits are allowed. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> rfl) _ (by
      rcases t with ⟨_ | _, ht⟩
      · exact Or.inl rfl
      · exact Or.inr rfl)

variable {m}

set_option maxRecDepth 8000 in
/-- On a permutation that exchanges the two positions: every weakly fair execution of the mesh terminates, with each
    device's result at its peer's block of `x`, the arguments unchanged and every semaphore at zero. -/
theorem run_swap (h : Swaps m) :
    θ_run defs (onTc (τ := τ) (main (F := F))) ⟨m, fun _ => 0, ρ⟩ (fun r =>
      (∀ c : Dev nD, r.2.mem ((c : Thread nD τ).loc main_v1) = m ((peer c : Thread nD τ).loc main_arg0)
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation h c).loose) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := made m) (G' := ghost m) (u₀ := u₀)
    (hu₀ := by
      unfold u₀
      iintro Hu
      ihave H := (ownU_pair _ _) $$ Hu
      icases H with ⟨HP, HX⟩
      imod (fund_made m) $$ HX with HG
      imodintro
      isplitl [HP] <;> iassumption)
    (hglob := alloc m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ hr hs => ⟨fun c => ⟨((hr c).1 (2 : Fin 3)).trans ((result_of (dats m 0 c)).trans (xBlk_eq m (peer c))),
        ((hr c).1 (0 : Fin 3)).trans ((dats m 0 c).arrAt_in (0 : Fin 3) rfl _), ((hr c).1 (1 : Fin 3)).trans ((dats m 0 c).arrAt_in (1 : Fin 3) rfl _)⟩,
      sem_eq_zero hs fun c => (hr c).2.2⟩)

end Cert.Exchange

end
-- ==== Proof.Stay.lean ====
/-
  The run of the mesh when the permutation is the identity: no device communicates. Each copies its block of `x` into its
  staging buffer of the result, and the semaphores, which it keeps throughout, are never touched.
-/
module

public import proofs.«01_k».proof.Proof.SwapRun

@[expose] public section

noncomputable section

namespace Cert.Exchange.Stay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the two words decide -/

/-- With the words of the identity the kernel does not take the branch that communicates -/
theorem stay_cond (c : Dev nD) : ¬ k0_cond1 c (BitVec.ofNat 32 (c.val % 2)) = 1#1 := by revert c; decide
/-- but the one that copies its own block. -/
theorem stay_cond' (c : Dev nD) :
    Scalar.cmpi .ne (Scalar.extui (Scalar.cmpi .eq (BitVec.ofNat 32 (c.val % 2)) (Scalar.remsi (Scalar.divsi (Dev.word c) 1#32) 2#32)) : BitVec 32) 0#32 = 1#1 := by
  revert c; decide
/-- Nothing is then asked of the semaphore's addressee. -/
theorem stay_chk2 (c : Dev nD) : k0_chk2 c (BitVec.ofNat 32 (c.val % 2)) := fun h => absurd h (stay_cond c)

/-! ## The body -/

/-- What the body neither needs nor changes: the three semaphores at zero, and the send buffer. -/
def kept (c : Dev nD) : sProp 𝕄 := iprop(finish c ∗ ∃ f, bPts c f)

/-- The pipeline's data: the result's staging buffer ends at the device's own block. -/
def dats (_ : Fin 1) (c : Dev nD) : Dat τ (Elt F) Unit ℕ UU ℕ cfg0 c where
  A w := m ((cfg0.win w).arr.view.loc (c : Thread nD τ))
  after w _ := match w with
    | ⟨0, _⟩ => xBlk m c
    | ⟨1, _⟩ => piBlk m c
    | ⟨2, _⟩ => xBlk m c
  Φ _ := kept c
  q _ := fullShare
  owed _ := 0

/-- What the body gets at the pipeline's one point; -/
def before (c : Dev nD) : sProp 𝕄 :=
  iprop(kept c ∗ (dats m 0 c).owesAt () (t0_0 : Fin cfg0.N).castSucc
    ∗ (∃ d, held c cc0_stg0_0 ((dats m 0 c).before (0 : Fin 3) t0_0 d))
    ∗ (∃ d, held c cc0_stg1_0 ((dats m 0 c).before (1 : Fin 3) t0_0 d))
    ∗ (∃ d, held c cc0_stg2_0 ((dats m 0 c).before (2 : Fin 3) t0_0 d)))
/-- what it leaves. -/
def after (c : Dev nD) : sProp 𝕄 :=
  iprop(kept c ∗ (dats m 0 c).owesAt () (t0_0 : Fin cfg0.N).succ
    ∗ held c cc0_stg0_0 (xBlk m c) ∗ held c cc0_stg1_0 (piBlk m c) ∗ held c cc0_stg2_0 (xBlk m c))

variable {m}

set_option maxHeartbeats 4000000 in
/-- The body, from `before` to `after`. -/
theorem body (h : Stays m) (c : Dev nD) (Kt : PUnit → sProp 𝕄) :
    iprop(before m c ∗ (after m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [Prog.lift, Prog.bind_op, Prog.bind_ret, Prog.pure_eq_ret, Prog.bind_assoc, wp_deviceId]
  unfold before
  iintro ⟨⟨Hkept, Ho, ⟨%d0, %g0, %hg0, Hx⟩, ⟨%d1, %g1, %hg1, Hpi⟩, ⟨%d2, %g2, %hg2, Hout⟩⟩, Hk⟩
  obtain rfl : g0 = xBlk m c := by rw [hg0]; unfold Dat.before; rw [if_pos fetch_x]; rfl
  obtain rfl : g1 = piBlk m c := by rw [hg1]; unfold Dat.before; rw [if_pos fetch_pi]; rfl
  -- the two words
  iapply (wp_word c (ownR c) _ _ _ _ (h.own c)) $$ Hpi; iintro Hpi
  simp only [wp_assume_of _ _ _ _ (d := k0_chk2.dec _ _) (stay_chk2 c)]
  iapply (wp_word c fstR _ _ _ _ (h.fst c)) $$ Hpi; iintro Hpi
  simp only [wp_assume_of _ _ _ _ (d := k0_chk1.dec _ _ _) (k0_chk1_all c _ _)]
  -- what they decide
  simp only [dif_neg (stay_cond c), if_pos (stay_cond' c), Prog.bind_op, Prog.bind_ret]
  -- the copy
  iapply (wp_load 𝒱₀ (c : Thread nD τ) none Set.univ (m := xM) (Finset.subset_univ _)) $$ Hx; iintro Hx
  rw [load_x]
  iapply (wp_load 𝒱₀ (c : Thread nD τ) none Set.univ (m := oM) (Finset.subset_univ _)) $$ Hout; iintro Hout
  iapply (wp_store 𝒱₀ (c : Thread nD τ) none Set.univ (m := oM) (r := allR) (Mk := Finset.univ) (Finset.subset_univ _)) $$ Hout; iintro Hout
  rw [store_o, pay2_eq, wp_ret]; imodintro
  iapply Hk
  unfold after
  isplitl [Hkept]; · iexact Hkept
  isplitl [Ho]; · iexact Ho
  isplitl [Hx]
  · iexists _; isplitr; · (ipureintro; rfl)
    iexact Hx
  isplitl [Hpi]
  · iexists _; isplitr; · (ipureintro; rfl)
    iexact Hpi
  iexists _; isplitr; · (ipureintro; rfl)
  iexact Hout

set_option maxRecDepth 4000 in
/-- The pipeline's obligation for the body. -/
theorem body_obligation (h : Stays m) (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_held]
  show before m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => after m c)
  iintro H
  iapply (body h c fun _ => after m c)
  isplitl [H]; · iexact H
  iintro H; iexact H

/-! ## The launch -/

variable (m)

/-- Each window's share is the whole. -/
theorem share_eq (c : Dev nD) (w : Fin cfg0.W) : (dats m 0 c).share w = fullShare := by unfold Dat.share; split <;> rfl

/-- Entering the region, -/
theorem enter (c : Dev nD) :
    iprop(finish c ∗ Pipeline.prefHeld Pipeline.Prefetch.none c (fun _ => fullShare.right) (fun k => k.elim0) ∗ Pipeline.scopedRest cfg0.spec c)
      ⊢ (dats m 0 c).Φ 0 := by
  rw [show (dats m 0 c).Φ 0 = kept c from rfl, scopedRest0_eq]
  unfold kept
  iintro ⟨Hs, -, ⟨%f, Hb⟩⟩
  isplitl [Hs]; · iexact Hs
  iexists f; rw [bPts_eq]; iexact Hb

/-- and leaving it. -/
theorem leave (c : Dev nD) :
    (dats m 0 c).Φ (Fin.last cfg0.N) ⊢ iprop(unscopedSems0 c ∗ Pipeline.ownSems0 osem c ∗ Pipeline.scopedRest cfg0.spec c) :=
  Exchange.leave m c

/-- The staging waits are allowed: nothing is owed. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> rfl) _ (.inr rfl)

/-- A device's semaphores, scoped and not, are its three. -/
theorem keep_one (c : Dev nD) : iprop(Pipeline.ownSems0 osem c ∗ unscopedSems0 c ∗ emp) ⊢ (finish c : sProp 𝕄) := by
  unfold finish; rw [ownSems0_eq, unscopedSems0_eq]
  iintro ⟨⟨H1, H2⟩, H0, -⟩
  isplitl [H0]; · iexact H0
  isplitl [H1] <;> iassumption

/-- Each device keeps its own. -/
theorem keep : bigSep Finset.univ (fun c : Dev nD => (iprop(Pipeline.ownSems0 osem c ∗ unscopedSems0 c ∗ emp) : sProp 𝕄))
    ⊢ iprop(|={Set.univ}=> bigSep Finset.univ (finish : Dev nD → sProp 𝕄)) := by
  have each : bigSep Finset.univ (fun c : Dev nD => (iprop(Pipeline.ownSems0 osem c ∗ unscopedSems0 c ∗ emp) : sProp 𝕄))
      ⊢ bigSep Finset.univ (finish : Dev nD → sProp 𝕄) := bigSep_mono fun c _ => keep_one c
  iintro H; imodintro
  iapply each; iexact H

variable {m}

set_option maxRecDepth 8000 in
/-- On the identity: every weakly fair execution of the mesh terminates, with each device's result at its own block of
    `x`, the arguments unchanged and every semaphore at zero. -/
theorem run_stay (h : Stays m) :
    θ_run defs (onTc (τ := τ) (main (F := F))) ⟨m, fun _ => 0, ρ⟩ (fun r =>
      (∀ c : Dev nD, r.2.mem ((c : Thread nD τ).loc main_v1) = m ((c : Thread nD τ).loc main_arg0)
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation h c).loose) (hne := block_pos0) (harr := arr_whole0) (hstage := stage_whole0) (hshare := share_eq m)
    (hdistinct := winFacts0.arr_inj)
    (O₀ := fun _ => 0) (howed₀ := fun _ => rfl) (howedN := fun _ => rfl)
    (L := L) (lv := lv) (hL := L_of_ne) (hwaits := waits m)
    (G := fun _ => iprop(emp)) (G' := finish) (u₀ := u₀)
    (hu₀ := by
      unfold u₀
      iintro Hu
      ihave H := (ownU_pair _ _) $$ Hu
      icases H with ⟨HP, -⟩
      imodintro
      isplitl [HP]; · iexact HP
      iapply (BI.bigSep_of_persistent Finset.univ (iprop(emp) : sProp 𝕄)); iempintro)
    (hglob := keep)
    (hA := fun _ _ => rfl) (hpf := fun _ k => k.elim0)
    (X := finish) (Y := fun c => unscopedSems0 c) (Z := fun _ => iprop(emp))
    (hX := fun c => by
      iintro ⟨-, -, -, -, H⟩
      imodintro
      isplitl; · iexact H
      iempintro)
    (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ hr hs => ⟨fun c => ⟨((hr c).1 (2 : Fin 3)).trans ((result_of (dats m 0 c)).trans (xBlk_eq m c)),
        ((hr c).1 (0 : Fin 3)).trans ((dats m 0 c).arrAt_in (0 : Fin 3) rfl _), ((hr c).1 (1 : Fin 3)).trans ((dats m 0 c).arrAt_in (1 : Fin 3) rfl _)⟩,
      sem_eq_zero hs fun c => (hr c).2.2⟩)

end Cert.Exchange.Stay

end
-- ==== Proof.Ref.lean ====
/-
  The reference's value: where the permutation is the exchange its result is `x` with its two halves exchanged, where it is
  the identity `x` itself; and device `c`'s block of that result as a block of `x`.
-/
module

public import proofs.«01_k».proof.Proof.Common
public import proofs.«01_k».proof.Proof.Gen.ReferenceIdeal.Run
public import Idealize.ShloMosaic.PureOps.Ideal
public import Idealize.ShloMosaic.Lib.Quiescent
public import Idealize.ShloMosaic.Lib.ValueIdxCore

@[expose] public section

noncomputable section

namespace Cert.Exchange.Ref

open Cert.ReferenceIdeal Cert.ReferenceIdeal.Gen
open Idealize.ShloMosaic Idealize.ShloMosaic.TcCoe Idealize.ShloMosaic.ValueIdx Idealize.SL.Sem

/-! ## The inverse permutation -/

/-- The row each result row is read from: the argsort of `pi`, a negative one wrapped around. -/
abbrev rows (pi : IVec S2 32) : IVec S2 32 :=
  select (cmpi .slt (Host.sort2 S2 0 comparator_i32_i32_d0 pi (iotaInDim S2 32 0)).2 (broadcastInDim S2 ![] bcast_S_S2 (constantI S_ 32 0#32)))
    (addi (Host.sort2 S2 0 comparator_i32_i32_d0 pi (iotaInDim S2 32 0)).2 (broadcastInDim S2 ![] bcast_S_S2 (constantI S_ 32 2#32)))
    (Host.sort2 S2 0 comparator_i32_i32_d0 pi (iotaInDim S2 32 0)).2

/-- The exchange is its own inverse, -/
theorem rows_swap (r : Fin 2) : rows (fun i => BitVec.ofNat 32 (1 - (i 0).val)) (ix1 r) = BitVec.ofNat 32 (1 - r.val) := by
  revert r; decide +kernel
/-- and so is the identity. -/
theorem rows_stay (r : Fin 2) : rows (fun i => BitVec.ofNat 32 (i 0).val) (ix1 r) = BitVec.ofNat 32 r.val := by
  revert r; decide +kernel

/-! ## The gather of rows -/

/-- The array has three axes. -/
theorem axis_cases (a : Fin 3) : a = 0 ∨ a = 1 ∨ a = 2 := by revert a; decide

/-- Result index `j` with its row replaced by `b`. -/
def atRow (b : Fin 2) (j : S2x256x256.Idx) : S2x256x256.Idx := fun a => if h : a = 0 then ⟨b.val, by subst h; exact b.isLt⟩ else j a

/-- Its other coordinates are `j`'s, -/
theorem atRow_ne (b : Fin 2) (j : S2x256x256.Idx) {a : Fin 3} (h : a ≠ 0) : atRow b j a = j a := dif_neg h
/-- and at its own row it is `j`. -/
theorem atRow_self (j : S2x256x256.Idx) : atRow (j 0) j = j := by
  funext a; unfold atRow; split
  · next h => subst h; rfl
  · rfl

/-- The gather's dimension numbers. -/
abbrev dims : GatherDims S2x256x256 S2x1 S2x256x256 := gather_S2x256x256_S2x1_S2x256x256_12_0_n_n_0_1_1256256

/-- A gather whose start index for row `j 0` is the row number `b` reads row `b`. -/
theorem gather_row {α : Type} (x : S2x256x256.Idx → α) (ix : IVec S2 32) (j : S2x256x256.Idx) (b : Fin 2)
    (hb : ix (ix1 (j 0)) = BitVec.ofNat 32 b.val) :
    Host.gather dims x (broadcastInDim S2x1 ![0] bcast_S2_S2x1_0 ix) j = x (atRow b j) := by
  unfold Host.gather
  refine congrArg x (funext fun a => Fin.ext ?_)
  show GatherDims.start dims j _ a + GatherDims.batchCoord dims j a + GatherDims.offCoord dims j a = _
  rw [GatherDims.batchCoord_eq_zero _ _ _ List.not_mem_nil, Nat.add_zero]
  rcases axis_cases a with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ GatherDims.startIndexMap dims from List.mem_singleton.mpr rfl)]
    rw [show ∀ k, broadcastInDim S2x1 ![0] bcast_S2_S2x1_0 ix (GatherDims.siIdx dims j k) = ix (ix1 (j 0)) from fun k => by
      refine congrArg ix (funext fun a' => ?_)
      obtain rfl : a' = 0 := Subsingleton.elim _ _
      rfl, hb]
    show min (BitVec.ofNat 32 b.val).toInt.toNat 1 = b.val
    exact (show ∀ b : Fin 2, min (BitVec.ofNat 32 b.val).toInt.toNat 1 = b.val by decide) b
  · exact Nat.zero_add _
  · exact Nat.zero_add _

/-! ## The result -/

/-- What the reference computes of its arguments. -/
abbrev out (x : FVec Ideal S2x256x256 .bf16) (pi : IVec S2 32) : FVec Ideal S2x256x256 .bf16 :=
  truncf .bf16 (extf .f32 (Host.gather dims x (broadcastInDim S2x1 ![0] bcast_S2_S2x1_0 (rows pi))) bitsLt_bf16_f32) bitsLt_bf16_f32

/-- The other of two rows. -/
def other (r : Fin 2) : Fin 2 := ⟨1 - r.val, by omega⟩

/-- Of the exchange: row `r` of the result is the other row of `x`. -/
theorem out_swap (x : FVec Ideal S2x256x256 .bf16) (pi : IVec S2 32) (h : ∀ i, pi i = BitVec.ofNat 32 (1 - (i 0).val)) (j : S2x256x256.Idx) :
    out x pi j = x (atRow (other (j 0)) j) := by
  obtain rfl : pi = fun i => BitVec.ofNat 32 (1 - (i 0).val) := funext h
  exact gather_row x _ j (other (j 0)) (rows_swap (j 0))

/-- Of the identity: row `r` of the result is row `r` of `x`. -/
theorem out_stay (x : FVec Ideal S2x256x256 .bf16) (pi : IVec S2 32) (h : ∀ i, pi i = BitVec.ofNat 32 (i 0).val) : out x pi = x := by
  obtain rfl : pi = fun i => BitVec.ofNat 32 (i 0).val := funext h
  funext j
  exact (gather_row x _ j (j 0) (rows_stay (j 0))).trans (congrArg x (atRow_self j))

/-! ## Its blocks -/

/-- Device `c`'s block coordinates. -/
abbrev coords (c : Dev KernelIdeal.nD) := Layout.meshBlock [2, 2, 2] ![[2], [], []] c

/-- A device's partner holds the other block. -/
theorem coords_peer (c : Dev KernelIdeal.nD) : (coords (peer c) 0).val = 1 - (coords c 0).val := by revert c; decide

/-- Device `c`'s block of the exchanged array is its partner's block of the array. -/
theorem block_swap {α : Type} (x v : S2x256x256.Idx → α) (h : ∀ j, v j = x (atRow (other (j 0)) j)) (c : Dev KernelIdeal.nD) :
    Layout.blockN ⟨3, ![1, 256, 256]⟩ ⟨3, ![2, 256, 256]⟩ (coords (peer c)) x
      = Layout.blockN ⟨3, ![1, 256, 256]⟩ ⟨3, ![2, 256, 256]⟩ (coords c) v := by
  funext i
  rw [Layout.blockN_apply, Layout.blockN_apply, h]
  refine congrArg x (funext fun a => Fin.ext ?_)
  have i0 : (i 0).val = 0 := by have h1 : (i 0).val < 1 := (i 0).isLt; omega
  rcases axis_cases a with rfl | rfl | rfl
  · show (coords (peer c) 0).val * 1 + (i 0).val = 1 - ((coords c 0).val * 1 + (i 0).val)
    rw [coords_peer, i0]; omega
  · rw [atRow_ne _ _ (by decide)]; rfl
  · rw [atRow_ne _ _ (by decide)]; rfl

/-! ## The run -/

/-- The reference runs: its result is `out` of its arguments, which end unchanged, and every semaphore ends at zero. -/
theorem run (m : (ℓ : Loc nD τ sig) → Buf (Elt Ideal) ℓ) (ρ : Dev nD → PrngReg) :
    θ_run defs (onTc (τ := τ) (main (F := Ideal))) ⟨m, fun _ => 0, ρ⟩ (fun r =>
      (∀ c : Dev nD, r.2.mem ((c.tc : Thread nD τ).loc main_v9) = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun r h => ⟨h, sem_eq_zero_of_no_sems (by decide) r.2⟩) (Value.run m ρ)

end Cert.Exchange.Ref

end
-- ==== Proof.lean ====
/-
  The claims, assembled: the kernel's frames and values are its two runs (Proof/SwapRun.lean where the permutation is the
  exchange, Proof/Stay.lean where it is the identity), the reference's are Proof/Ref.lean's.
-/
module

public import proofs.«01_k».proof.Defs
public import proofs.«01_k».proof.Proof.Gen.Kernel
public import proofs.«01_k».proof.Proof.SwapRun
public import proofs.«01_k».proof.Proof.Stay
public import proofs.«01_k».proof.Proof.Ref

@[expose] public section

noncomputable section

namespace Cert.Proof

open Idealize.ShloMosaic Idealize.ShloMosaic.ValueIdx Idealize.SL.Sem
open Cert.Exchange (Swaps Stays peer run_swap)
open Cert.Exchange.Stay (run_stay)
open Cert.Exchange.Ref (out out_swap out_stay block_swap)

/-! ## What the preconditions say -/

/-- Where the first predicate is all ones, `pi` is the exchange. -/
theorem swaps_of {F : FTy → Type} [FloatOps F] [Cert.Pre_pi_swaps_Kernel.Facts] (x : FVec F Cert.Pre_pi_swaps_Kernel.S1x256x256 .bf16)
    (pi : IVec Cert.Pre_pi_swaps_Kernel.S2 32) (h : Cert.Pre_pi_swaps_Kernel.fn x pi = fun _ => 1#1) (i : Cert.Pre_pi_swaps_Kernel.S2.Idx) :
    pi i = BitVec.ofNat 32 (1 - (i 0).val) := by
  have e : pi i = Cert.Pre_pi_swaps_Kernel.lit0 (Cert.Pre_pi_swaps_Kernel.S2.rowMajor i) := IntOp.cmpi_eq.mp (congrFun h i)
  rw [e, eq_ix1 i]
  generalize i 0 = r
  revert r; decide +kernel

/-- Where the second is all ones, `pi` is the identity. -/
theorem stays_of {F : FTy → Type} [FloatOps F] [Cert.Pre_pi_stays_Kernel.Facts] (x : FVec F Cert.Pre_pi_stays_Kernel.S1x256x256 .bf16)
    (pi : IVec Cert.Pre_pi_stays_Kernel.S2 32) (h : Cert.Pre_pi_stays_Kernel.fn x pi = fun _ => 1#1) (i : Cert.Pre_pi_stays_Kernel.S2.Idx) :
    pi i = BitVec.ofNat 32 (i 0).val := by
  have e : pi i = Cert.Pre_pi_stays_Kernel.lit0 (Cert.Pre_pi_stays_Kernel.S2.rowMajor i) := IntOp.cmpi_eq.mp (congrFun h i)
  rw [e, eq_ix1 i]
  generalize i 0 = r
  revert r; decide +kernel

/-! ## The frames -/

/-- The two printed programs have the same body table: they are the same text, -/
theorem bodies_eq : Cert.Kernel.defs₀ (F := Bits) = Cert.KernelIdeal.defs₀ (F := Bits) := by
  unfold Cert.Kernel.defs₀ Cert.KernelIdeal.defs₀
  refine congrArg Defs.onTc ?_
  funext l a
  fin_cases l
  rfl
/-- and with the pipeline's. -/
theorem defs_eq : Cert.Kernel.defs (F := Bits) = Cert.KernelIdeal.defs (F := Bits) := congrArg (Pipeline.defs _) bodies_eq

/-- A run of the one program is a run of the other. -/
theorem run_eq (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) Cert.Kernel.main) ⟨m, fun _ => 0, ρ⟩
      = θ_run (Cert.KernelIdeal.defs (F := Bits)) (onTc (τ := Cert.KernelIdeal.τ) Cert.KernelIdeal.main) ⟨m, fun _ => 0, ρ⟩ :=
  congrArg (fun d => θ_run d (onTc (τ := Cert.Kernel.τ) Cert.Kernel.main) ⟨m, fun _ => 0, ρ⟩) defs_eq

/-- The kernel's frame on the exchange: its run, the value dropped. -/
theorem frame_kernel_swap [Cert.Pre_pi_swaps_Kernel.Facts] : Cert.quiescent_Kernel := fun m ρ hp => by
  rw [run_eq]
  exact (θ_run Cert.KernelIdeal.defs _ _).mono (fun _ h => ⟨fun c => (h.1 c).2, h.2⟩) (run_swap (F := Bits) ρ fun c => swaps_of _ _ (hp c))

/-- The kernel's frame on the identity. -/
theorem frame_kernel_stay [Cert.Pre_pi_stays_Kernel.Facts] : Cert.quiescent_Kernel_pre_pi_stays_Kernel := fun m ρ hp => by
  rw [run_eq]
  exact (θ_run Cert.KernelIdeal.defs _ _).mono (fun _ h => ⟨fun c => (h.1 c).2, h.2⟩) (run_stay (F := Bits) ρ fun c => stays_of _ _ (hp c))

/-- The idealized kernel's frame on the exchange, -/
theorem frame_ideal_swap [Cert.Pre_pi_swaps_Kernel.Facts] : Cert.quiescent_KernelIdeal := fun m ρ hp =>
  (θ_run Cert.KernelIdeal.defs _ _).mono (fun _ h => ⟨fun c => (h.1 c).2, h.2⟩) (run_swap (F := Ideal) ρ fun c => swaps_of _ _ (hp c))

/-- and on the identity. -/
theorem frame_ideal_stay [Cert.Pre_pi_stays_Kernel.Facts] : Cert.quiescent_KernelIdeal_pre_pi_stays_Kernel := fun m ρ hp =>
  (θ_run Cert.KernelIdeal.defs _ _).mono (fun _ h => ⟨fun c => (h.1 c).2, h.2⟩) (run_stay (F := Ideal) ρ fun c => stays_of _ _ (hp c))

/-- The reference's frame, from every memory. -/
theorem frame_reference : Cert.quiescent_ReferenceIdeal := fun m ρ _ =>
  (θ_run Cert.ReferenceIdeal.defs _ _).mono (fun _ h => ⟨fun c => (h.1 c).2, h.2⟩) (Cert.Exchange.Ref.run m ρ)

/-! ## The values -/

/-- On the exchange each device's result is its block of the reference's: both are the partner's block of `x`. -/
theorem value_swap [Cert.Pre_pi_swaps_Kernel.Facts] : Cert.algebraic_KernelIdeal_ReferenceIdeal := fun m ρ m' ρ' hp hrel =>
  ⟨out _ _,
    (θ_run Cert.KernelIdeal.defs _ _).mono
      (fun _ h c => ⟨(h.1 c).1.trans ((hrel (peer c)).1.trans
        (block_swap _ _ (out_swap _ _ fun i => (congrFun (hrel 0).2 i).symm.trans (swaps_of _ _ (hp 0) i)) c)), (h.1 c).2⟩)
      (run_swap (F := Ideal) ρ fun c => swaps_of _ _ (hp c)),
    (θ_run Cert.ReferenceIdeal.defs _ _).mono (fun _ h => h.1 0) (Cert.Exchange.Ref.run m' ρ')⟩

/-- On the identity too: both are the device's own block of `x`. -/
theorem value_stay [Cert.Pre_pi_stays_Kernel.Facts] : Cert.algebraic_KernelIdeal_ReferenceIdeal_pre_pi_stays_Kernel := fun m ρ m' ρ' hp hrel =>
  ⟨out _ _,
    (θ_run Cert.KernelIdeal.defs _ _).mono
      (fun _ h c => ⟨(h.1 c).1.trans ((hrel c).1.trans (congrArg (Layout.blockN _ _ _ · _)
        (out_stay _ _ fun i => (congrFun (hrel 0).2 i).symm.trans (stays_of _ _ (hp 0) i)).symm)), (h.1 c).2⟩)
      (run_stay (F := Ideal) ρ fun c => stays_of _ _ (hp c)),
    (θ_run Cert.ReferenceIdeal.defs _ _).mono (fun _ h => h.1 0) (Cert.Exchange.Ref.run m' ρ')⟩

/-- Every claim of Defs.lean. -/
theorem claim : Cert.Claim :=
  have : Cert.Pre_pi_swaps_Kernel.Facts := ⟨⟩
  have : Cert.Pre_pi_stays_Kernel.Facts := ⟨⟩
  ⟨Cert.Kernel.Gen.facts, Cert.KernelIdeal.Gen.facts, Cert.ReferenceIdeal.Gen.facts, inferInstance, inferInstance, ⟨⟩, ⟨⟩,
    frame_kernel_swap, frame_kernel_stay, frame_ideal_swap, frame_ideal_stay,
    frame_reference, fun m ρ _ => frame_reference m ρ trivial, fun m ρ _ => frame_reference m ρ trivial,
    trivial, value_swap, value_stay⟩

end Cert.Proof

end
